-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x8192x32 : Shape := ⟨3, ![64, 8192, 32]⟩
abbrev S64x32x8192 : Shape := ⟨3, ![64, 32, 8192]⟩
abbrev S4x32x8192 : Shape := ⟨3, ![4, 32, 8192]⟩
abbrev S4x8192 : Shape := ⟨2, ![4, 8192]⟩
abbrev S4x1x8192 : Shape := ⟨3, ![4, 1, 8192]⟩

abbrev nBuf : Space → Nat
  | .hbm => 4
  | .vmem => 4
  | .smem => 0
  | _ => 0

abbrev bufTy : (tb : Table) → Fin (tcTables nBuf tb) → BufTy
  | .hbm, ⟨0, _⟩ => ⟨S64x8192x32, .f32⟩
  | .hbm, ⟨1, _⟩ => ⟨S64x32x8192, .f32⟩
  | .hbm, ⟨2, _⟩ => ⟨S64x32x8192, .f32⟩
  | .hbm, ⟨3, _⟩ => ⟨S64x8192x32, .f32⟩
  | .local _ .vmem, ⟨0, _⟩ => ⟨S4x32x8192, .f32⟩
  | .local _ .vmem, ⟨1, _⟩ => ⟨S4x32x8192, .f32⟩
  | .local _ .vmem, ⟨2, _⟩ => ⟨S4x32x8192, .f32⟩
  | .local _ .vmem, ⟨3, _⟩ => ⟨S4x32x8192, .f32⟩
  | _, _ => ⟨S64x8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x32x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x32x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S64x8192x32 : Shape := ⟨3, ![64, 8192, 32]⟩
abbrev S_ : Shape := ⟨0, ![]⟩
abbrev S64x8192 : Shape := ⟨2, ![64, 8192]⟩
abbrev S64x8192x1 : Shape := ⟨3, ![64, 8192, 1]⟩
abbrev S1x1x32 : Shape := ⟨3, ![1, 1, 32]⟩

abbrev nBuf : Space → Nat
  | .hbm => 12
  | .vmem => 0
  | .smem => 0
  | _ => 0

abbrev bufTy : (tb : Table) → Fin (tcTables nBuf tb) → BufTy
  | .hbm, ⟨0, _⟩ => ⟨S64x8192x32, .f32⟩
  | .hbm, ⟨1, _⟩ => ⟨S64x8192x32, .i32⟩
  | .hbm, ⟨2, _⟩ => ⟨S_, .f32⟩
  | .hbm, ⟨3, _⟩ => ⟨S_, .i32⟩
  | .hbm, ⟨4, _⟩ => ⟨S64x8192, .f32⟩
  | .hbm, ⟨5, _⟩ => ⟨S64x8192, .i32⟩
  | .hbm, ⟨6, _⟩ => ⟨S64x8192x1, .i32⟩
  | .hbm, ⟨7, _⟩ => ⟨S1x1x32, .i32⟩
  | .hbm, ⟨8, _⟩ => ⟨S64x8192x32, .i32⟩
  | .hbm, ⟨9, _⟩ => ⟨S64x8192x32, .i32⟩
  | .hbm, ⟨10, _⟩ => ⟨S64x8192x32, .i1⟩
  | .hbm, ⟨11, _⟩ => ⟨S64x8192x32, .f32⟩
  | _, _ => ⟨S64x8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_call1_v0 : Ref sig .tc := ⟨.hbm, 6, rfl⟩
abbrev main_call1_v1 : Ref sig .tc := ⟨.hbm, 7, rfl⟩
abbrev main_call1_v2 : Ref sig .tc := ⟨.hbm, 8, rfl⟩
abbrev main_call1_v3 : Ref sig .tc := ⟨.hbm, 9, rfl⟩
abbrev main_call1_v4 : Ref sig .tc := ⟨.hbm, 10, rfl⟩
abbrev main_v1 : Ref sig .tc := ⟨.hbm, 11, rfl⟩

abbrev nD : Nat := 1
abbrev τ : Topo := Topo.v7x

variable {F : FTy → Type} [FloatOps F]
-- ==== Proof.FirstMax.lean ====
/-
  The mathematics of a row's arg-max, with no program in it. A row is a function from 32 places to the extended reals; its
  FIRST MAXIMUM is the smallest place that holds its greatest value, and its ONE-HOT is one there and zero elsewhere. Three
  computations are shown to find that place: taking the greatest value (`fold_max_row`) and then the smallest place that
  holds it, as 32-bit words (`fold_minsi_masked`); and folding (value, place) pairs, in any order, with a step that keeps
  the better of two (`foldl_best`).
-/
module

public import Idealize.ShloMosaic.PureOps
public import Idealize.ShloMosaic.PureOps.Reduce
public import Idealize.ShloMosaic.Lib.SortNet.Extract
public import Mathlib.Data.EReal.Basic
public import Mathlib.Data.Finset.Max
public import Mathlib.Data.Finset.Fold

@[expose] public section

noncomputable section

namespace Cert.OneHot

open Idealize.ShloMosaic

/-! ## The first maximum of a row -/

/-- Place `k` holds the row's greatest value and no earlier place does: every place holds less, or holds the same and comes
    no earlier. -/
def IsFirstMax (row : Fin 32 → EReal) (k : Fin 32) : Prop := ∀ l, row l < row k ∨ (row l = row k ∧ k ≤ l)

/-- Every row has a first maximum. -/
theorem exists_isFirstMax (row : Fin 32 → EReal) : ∃ k, IsFirstMax row k := by
  obtain ⟨b, -, hb⟩ := Finset.exists_max_image Finset.univ row ⟨0, Finset.mem_univ _⟩
  obtain ⟨k, hk, hmin⟩ := Finset.exists_min_image (Finset.univ.filter fun l => row l = row b) id
    ⟨b, Finset.mem_filter.2 ⟨Finset.mem_univ _, rfl⟩⟩
  have hkb : row k = row b := (Finset.mem_filter.1 hk).2
  refine ⟨k, fun l => ?_⟩
  rcases lt_or_eq_of_le (hb l (Finset.mem_univ _)) with h | h
  · exact .inl (hkb ▸ h)
  · exact .inr ⟨h.trans hkb.symm, hmin l (Finset.mem_filter.2 ⟨Finset.mem_univ _, h⟩)⟩

/-- It has only one. -/
theorem IsFirstMax.unique {row : Fin 32 → EReal} {k k' : Fin 32} (h : IsFirstMax row k) (h' : IsFirstMax row k') : k = k' := by
  rcases h k' with a | ⟨a, b⟩ <;> rcases h' k with a' | ⟨a', b'⟩
  · exact absurd a a'.asymm
  · exact absurd a'.symm a.ne
  · exact absurd a.symm a'.ne
  · exact le_antisymm b b'

/-- The first maximum of a row. -/
def firstMax (row : Fin 32 → EReal) : Fin 32 := (exists_isFirstMax row).choose

/-- It is the first maximum. -/
theorem firstMax_spec (row : Fin 32 → EReal) : IsFirstMax row (firstMax row) := (exists_isFirstMax row).choose_spec

/-- No place of the row holds more than its first maximum. -/
theorem le_firstMax (row : Fin 32 → EReal) (l : Fin 32) : row l ≤ row (firstMax row) := by
  rcases firstMax_spec row l with h | h
  · exact h.le
  · exact h.1.le

/-- A place that holds the greatest value comes no earlier than the first maximum. -/
theorem firstMax_le (row : Fin 32 → EReal) {l : Fin 32} (h : row l = row (firstMax row)) : firstMax row ≤ l := by
  rcases firstMax_spec row l with h' | h'
  · exact absurd h h'.ne
  · exact h'.2

/-- The one-hot of a row: one at its first maximum, zero at every other place. -/
def hot (row : Fin 32 → EReal) (k : Fin 32) : EReal := if k = firstMax row then 1 else 0

/-! ## The greatest value, then the smallest place that holds it -/

/-- The fold of `max` over the row from minus infinity is the value at the first maximum. -/
theorem fold_max_row (row : Fin 32 → EReal) : (Finset.univ : Finset (Fin 32)).fold max ⊥ row = row (firstMax row) :=
  le_antisymm ((Finset.fold_max_le _).2 ⟨bot_le, fun l _ => le_firstMax row l⟩)
    ((Finset.le_fold_max _).2 (.inr ⟨firstMax row, Finset.mem_univ _, le_rfl⟩))

/-- A place's 32-bit word, read as a signed integer, is the place. -/
theorem toInt_place (k : Fin 32) : (BitVec.ofNat 32 k.val).toInt = (k.val : Int) := by
  have h := k.isLt
  rw [BitVec.toInt_eq_toNat_of_lt] <;> rw [BitVec.toNat_ofNat, Nat.mod_eq_of_lt (by omega)]
  omega

/-- Two places with one word are one place. -/
theorem place_word_inj {k l : Fin 32} : BitVec.ofNat 32 k.val = BitVec.ofNat 32 l.val ↔ k = l := by
  refine ⟨fun h => Fin.ext ?_, fun h => h ▸ rfl⟩
  have := congrArg BitVec.toInt h
  rw [toInt_place, toInt_place] at this
  exact_mod_cast this

/-- A fold of the signed minimum of words, read as integers, is the fold of the minimum. -/
theorem toInt_fold_minsi (acc : BitVec 32) (f : Fin 32 → BitVec 32) (s : Finset (Fin 32)) :
    (s.fold IntOp.minsi acc f).toInt = s.fold min acc.toInt fun l => (f l).toInt :=
  (Finset.fold_hom (op := IntOp.minsi) (op' := min) (m := BitVec.toInt) (f := f) (b := acc) SortNet.toInt_minsi).symm

/-- The masked minimum: each place that holds the greatest value offers its own word, every other offers 32, and the signed
    minimum of the offers (from the greatest signed word) is the first maximum's word. -/
theorem fold_minsi_masked (row : Fin 32 → EReal) (f : Fin 32 → BitVec 32)
    (hf : ∀ l, f l = if row l = row (firstMax row) then BitVec.ofNat 32 l.val else 32#32) :
    (Finset.univ : Finset (Fin 32)).fold IntOp.minsi 2147483647#32 f = BitVec.ofNat 32 (firstMax row).val := by
  apply BitVec.eq_of_toInt_eq
  rw [toInt_fold_minsi, toInt_place]
  have hk := (firstMax row).isLt
  refine le_antisymm ((Finset.fold_min_le _).2 (.inr ⟨firstMax row, Finset.mem_univ _, ?_⟩))
    ((Finset.le_fold_min _).2 ⟨?_, fun l _ => ?_⟩)
  · rw [hf, if_pos rfl, toInt_place]
  · show ((firstMax row).val : Int) ≤ 2147483647
    omega
  · rw [hf]
    split
    · next h => rw [toInt_place]; exact_mod_cast firstMax_le row h
    · show ((firstMax row).val : Int) ≤ 32
      omega

/-! ## Folding (value, place) pairs -/

/-- Pair `p` is at least as good as pair `q`: its value is greater, or the values agree and its place (a signed word) comes
    no later. -/
def Beats (p q : EReal × BitVec 32) : Prop := q.1 < p.1 ∨ (q.1 = p.1 ∧ p.2.toInt ≤ q.2.toInt)

/-- A pair is at least as good as itself, -/
theorem Beats.refl (p : EReal × BitVec 32) : Beats p p := .inr ⟨rfl, le_rfl⟩

/-- and "at least as good" passes through a third pair. -/
theorem Beats.trans {p q r : EReal × BitVec 32} (h : Beats p q) (h' : Beats q r) : Beats p r := by
  rcases h with h | ⟨h, g⟩ <;> rcases h' with h' | ⟨h', g'⟩
  · exact .inl (h'.trans h)
  · exact .inl (h' ▸ h)
  · exact .inl (h ▸ h')
  · exact .inr ⟨h'.trans h, g.trans g'⟩

/-- A fold whose step keeps one of its two pairs, and one that beats both, ends at one of the pairs folded, and one that
    beats them all: the order in which they come does not matter. -/
theorem foldl_best (step : EReal × BitVec 32 → EReal × BitVec 32 → EReal × BitVec 32)
    (keeps : ∀ p q, step p q = p ∨ step p q = q) (beats : ∀ p q, Beats (step p q) p ∧ Beats (step p q) q) :
    ∀ (L : List (EReal × BitVec 32)) (init : EReal × BitVec 32),
      L.foldl step init ∈ init :: L ∧ ∀ q ∈ init :: L, Beats (L.foldl step init) q
  | [], init => ⟨List.mem_cons_self, fun q hq => by
      rw [List.mem_singleton.1 hq]; exact Beats.refl _⟩
  | p :: L, init => by
    obtain ⟨hm, hb⟩ := foldl_best step keeps beats L (step init p)
    rw [List.foldl_cons]
    have hs := hb _ List.mem_cons_self
    refine ⟨?_, fun q hq => ?_⟩
    · rcases List.mem_cons.1 hm with h | h
      · rw [h]
        rcases keeps init p with e | e <;> rw [e]
        · exact List.mem_cons_self
        · exact List.mem_cons_of_mem _ List.mem_cons_self
      · exact List.mem_cons_of_mem _ (List.mem_cons_of_mem _ h)
    · rcases List.mem_cons.1 hq with h | h
      · rw [h]; exact hs.trans (beats init p).1
      rcases List.mem_cons.1 h with h | h
      · rw [h]; exact hs.trans (beats init p).2
      · exact hb q (List.mem_cons_of_mem _ h)

/-- Folding the 32 (value, place) pairs of a row, in any order and however often each comes, from the pair (minus infinity,
    place 0) ends at the first maximum's place. (If the initial pair itself survives, every value is minus infinity, and the
    first maximum is place 0.) -/
theorem foldl_row (step : EReal × BitVec 32 → EReal × BitVec 32 → EReal × BitVec 32)
    (keeps : ∀ p q, step p q = p ∨ step p q = q) (beats : ∀ p q, Beats (step p q) p ∧ Beats (step p q) q)
    (row : Fin 32 → EReal) (L : List (EReal × BitVec 32))
    (hL : ∀ p, p ∈ L ↔ ∃ k : Fin 32, p = (row k, BitVec.ofNat 32 k.val)) :
    (L.foldl step (⊥, 0#32)).2 = BitVec.ofNat 32 (firstMax row).val := by
  obtain ⟨hm, hb⟩ := foldl_best step keeps beats L (⊥, 0#32)
  -- the fold's pair is a pair of the row
  have hrow : ∃ k : Fin 32, (L.foldl step (⊥, 0#32)).2 = BitVec.ofNat 32 k.val ∧ (L.foldl step (⊥, 0#32)).1 = row k := by
    rcases List.mem_cons.1 hm with h | h
    · refine ⟨0, by rw [h]; rfl, ?_⟩
      have h0 := hb _ (List.mem_cons_of_mem _ ((hL _).2 ⟨0, rfl⟩))
      rw [h] at h0 ⊢
      rcases h0 with h0 | h0
      · exact absurd h0 not_lt_bot
      · exact h0.1.symm
    · obtain ⟨k, hk⟩ := (hL _).1 h
      exact ⟨k, by rw [hk], by rw [hk]⟩
  obtain ⟨k, h2, h1⟩ := hrow
  have hk : IsFirstMax row k := fun l => by
    have h := hb _ (List.mem_cons_of_mem _ ((hL _).2 ⟨l, rfl⟩))
    unfold Beats at h
    rw [h1, h2, toInt_place, toInt_place] at h
    rcases h with h | ⟨h, g⟩
    · exact .inl h
    · exact .inr ⟨h, by exact_mod_cast g⟩
  rw [h2, hk.unique (firstMax_spec row)]

end Cert.OneHot

end
-- ==== Proof.Block.lean ====
/-
  What the kernel's body computes of one (4, 32, 8192) block: at every batch `a` and every position `b` the 32 values along
  the middle axis are a row, and the block stored is that row's one-hot. The body takes the row's maximum, keeps each
  place's number where the value equals the maximum and 32 elsewhere, takes the smallest of these, and compares each place's
  number with it.
-/
module

public import proofs.«01_k».proof.Proof.FirstMax
public import proofs.«01_k».proof.Proof.Gen.KernelIdeal.Skeleton
public import Idealize.ShloMosaic.PureOps.Ideal.Laws
public import Idealize.ShloMosaic.Lib.Pipeline.Value
public import Idealize.ShloMosaic.Lib.ValueIdxCore

@[expose] public section

noncomputable section

namespace Cert.KernelIdeal.Block

open Cert.KernelIdeal Cert.KernelIdeal.Gen Cert.OneHot
open Idealize.ShloMosaic Idealize.ShloMosaic.ValueIdx

variable (x : FVec Ideal S4x32x8192 .f32)

/-- The row of the block at batch `a` and position `b`: the 32 values along the middle axis. -/
def row (a : Fin 4) (b : Fin 8192) : Fin 32 → EReal := fun l => x (ix3 a l b)

/-! ## The maximum of every row -/

/-- Every row's maximum. -/
def top : FVec Ideal S4x8192 .f32 :=
  multiReduction .maximumf [1] S4x8192 x 0xFF800000#32 reduces_S4x32x8192_S4x8192 (.inl rfl) rfl

/-- The index a reduction along the middle axis reads: the two kept coordinates with the place between them. -/
theorem lift_eq (a : Fin 4) (b : Fin 8192) (l : Fin 32) :
    Shape.Reduces.lift (s := S4x32x8192) (a := 1) (t := S4x8192) reduces_S4x32x8192_S4x8192 (ix2 a b) l = ix3 a l b := by
  funext d
  match d with
  | ⟨0, _⟩ => rfl
  | ⟨1, _⟩ => rfl
  | ⟨2, _⟩ => rfl

/-- The word the maximum starts from is minus infinity. -/
theorem start_eq_bot : (FloatOps.ofBits .f32 0xFF800000#32 : Ideal .f32) = (⊥ : EReal) := by
  show Ideal.ofBits .f32 0xFF800000#32 = ⊥
  simp [Ideal.ofBits, Ideal.ieee]

/-- The row's maximum is its value at its first maximum. -/
theorem top_apply (a : Fin 4) (b : Fin 8192) : top x (ix2 a b) = row x a b (firstMax (row x a b)) := by
  refine (Ideal.multiReduction_maximumf_single x 0xFF800000#32 reduces_S4x32x8192_S4x8192 (.inl rfl) rfl (ix2 a b)).trans ?_
  rw [start_eq_bot, ← fold_max_row (row x a b)]
  exact congrArg (fun f => Finset.fold max ⊥ f Finset.univ) (funext fun l => congrArg x (lift_eq a b l))

/-! ## A value per row, read back at every place of the row -/

/-- A table with one entry per row, given the row axis back and spread along it, reads at every place of a row the row's
    entry. -/
theorem spread_apply {α : Type} (v : S4x8192.Idx → α) (a : Fin 4) (l : Fin 32) (b : Fin 8192) :
    broadcastTo S4x32x8192 (shapeCast S4x1x8192 v shapeCasts_S4x8192_S4x1x8192) broadcasts_S4x1x8192_S4x32x8192 (ix3 a l b)
      = v (ix2 a b) := by
  rw [broadcastTo_apply _ _ (ix3 a l b) (ix3 a (0 : Fin 1) b) (fun d => by
      match d with
      | ⟨0, _⟩ => rfl
      | ⟨1, _⟩ => rfl
      | ⟨2, _⟩ => rfl),
    shapeCast_apply v _ (ix3 a (0 : Fin 1) b) (ix2 a b) (by
      rw [Shape.rowMajor_val_two, Shape.rowMajor_val_three]
      show a.val * 8192 + b.val = (a.val * 1 + 0) * 8192 + b.val
      omega)]

/-! ## The smallest place that holds the maximum -/

/-- Each place's number where the value equals the row's maximum, and 32 elsewhere. -/
def offers : IVec S4x32x8192 32 :=
  select (cmpf .oeq x (broadcastTo S4x32x8192 (shapeCast S4x1x8192 (top x) shapeCasts_S4x8192_S4x1x8192)
      broadcasts_S4x1x8192_S4x32x8192))
    (iota .tc S4x32x8192 32 [1] iota_S4x32x8192_d1_w32) (broadcast S4x32x8192 32#32)

/-- The same, place by place, about the row and its first maximum. -/
theorem offers_apply (a : Fin 4) (l : Fin 32) (b : Fin 8192) :
    offers x (ix3 a l b)
      = if row x a b l = row x a b (firstMax (row x a b)) then BitVec.ofNat 32 l.val else 32#32 := by
  unfold offers
  rw [select_apply, cmpf_apply, spread_apply, top_apply, iota_single_apply, broadcast_apply, Ideal.cmpf_def]
  show Scalar.select (BitVec.ofBool (decide (row x a b l = row x a b (firstMax (row x a b))))) _ _ = _
  by_cases h : row x a b l = row x a b (firstMax (row x a b))
  · rw [decide_eq_true h, if_pos h]; rfl
  · rw [decide_eq_false h, if_neg h]; rfl

/-- Every row's smallest offer. -/
def arg : IVec S4x8192 32 :=
  multiReductionI .minsi [1] S4x8192 (offers x) 2147483647#32 reduces_S4x32x8192_S4x8192 rfl

/-- It is the first maximum's word. -/
theorem arg_apply (a : Fin 4) (b : Fin 8192) : arg x (ix2 a b) = BitVec.ofNat 32 (firstMax (row x a b)).val := by
  refine (multiReductionI_eq_fold .minsi (offers x) 2147483647#32 reduces_S4x32x8192_S4x8192 rfl (ix2 a b)).trans
    ((Shape.Reduces.fold_filter_drop_single reduces_S4x32x8192_S4x8192 IntOp.minsi _ (offers x) (ix2 a b)).trans ?_)
  exact fold_minsi_masked (row x a b) _ fun l => (congrArg (offers x) (lift_eq a b l)).trans (offers_apply x a l b)

/-! ## The stored block -/

/-- A comparison's bit, widened to a word and converted, is one or zero. -/
theorem bit_value (p : Prop) [Decidable p] :
    (FloatOps.sitofp .f32 ((BitVec.ofBool (decide p)).setWidth 32) : Ideal .f32) = (if p then 1 else 0 : EReal) := by
  show (((((BitVec.ofBool (decide p)).setWidth 32).toInt : ℤ) : ℝ) : EReal) = _
  by_cases h : p
  · rw [decide_eq_true h, if_pos h]
    show (((1 : ℤ) : ℝ) : EReal) = 1
    simp
  · rw [decide_eq_false h, if_neg h]
    show (((0 : ℤ) : ℝ) : EReal) = 0
    simp

/-- THE BLOCK: what the body stores, at batch `a`, place `k`, position `b`, is the one-hot of the row there at `k`. -/
theorem stored_apply (a : Fin 4) (k : Fin 32) (b : Fin 8192) : k0_pay1 (F := Ideal) x (ix3 a k b) = hot (row x a b) k := by
  have e : k0_pay1 (F := Ideal) x
      = sitofp .f32 (extui 32 (cmpi .eq (iota .tc S4x32x8192 32 [1] iota_S4x32x8192_d1_w32)
          (broadcastTo S4x32x8192 (shapeCast S4x1x8192 (arg x) shapeCasts_S4x8192_S4x1x8192)
            broadcasts_S4x1x8192_S4x32x8192)) natLt_1_32) := by
    unfold k0_pay1 arg offers top
    simp only [shapeCast_self]
  rw [e, sitofp_apply, extui_apply]
  show FloatOps.sitofp .f32 ((IntOp.cmpi .eq (iota .tc S4x32x8192 32 [1] iota_S4x32x8192_d1_w32 (ix3 a k b))
    (broadcastTo S4x32x8192 (shapeCast S4x1x8192 (arg x) shapeCasts_S4x8192_S4x1x8192)
      broadcasts_S4x1x8192_S4x32x8192 (ix3 a k b))).setWidth 32) = _
  rw [spread_apply, arg_apply, iota_single_apply]
  have hb : IntOp.cmpi .eq (BitVec.ofNat 32 k.val) (BitVec.ofNat 32 (firstMax (row x a b)).val)
      = BitVec.ofBool (decide (k = firstMax (row x a b))) := by
    show BitVec.ofBool (decide (BitVec.ofNat 32 k.val = BitVec.ofNat 32 (firstMax (row x a b)).val)) = _
    rw [decide_eq_decide.2 place_word_inj]
  exact (congrArg (fun w : BitVec 1 => (FloatOps.sitofp .f32 (w.setWidth 32) : Ideal .f32)) hb).trans (bit_value _)

end Cert.KernelIdeal.Block

end
-- ==== Proof.Array.lean ====
/-
  What the kernel's arrays hold. Grid point `t` works on batches 4t … 4t + 3 (`place`); its block of the result array is the
  one-hot of its block of the operand array (`block_apply`), and the sixteen blocks fill the array (`filled`), so the result
  array is the one-hot, along the middle axis, of the operand array (`array_eq`). The operand array is the argument with its
  last two axes exchanged, and the program's result is the result array with them exchanged back: the one-hot of the
  argument along its last axis (`result_eq`).
-/
module

public import proofs.«01_k».proof.Proof.Block
public import proofs.«01_k».proof.Proof.Gen.KernelIdeal.Frame
public import Idealize.ShloMosaic.Lib.Pipeline.ValueKit
public import Idealize.ShloMosaic.Lib.StableHlo.Run

@[expose] public section

noncomputable section

namespace Cert.KernelIdeal.Array

open Cert.KernelIdeal Cert.KernelIdeal.Gen Cert.OneHot
open Idealize.ShloMosaic hiding ix3 eq_ix3
open Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Where a block sits -/

/-- Point `t`'s batch `a`, in the array. -/
def place (t : Fin cfg0.N) (a : Fin 4) : Fin 64 :=
  ⟨4 * t.val + a.val, by have h := t.isLt; have e : cfg0.N = 16 := N_0; omega⟩

/-- The operand's block at point `t` starts at batch 4t and at the beginning of the other two axes, -/
theorem start_in (t : Fin cfg0.N) : win0_0.index t 0 * win0_0.size 0 = 4 * t.val
    ∧ win0_0.index t 1 * win0_0.size 1 = 0 ∧ win0_0.index t 2 * win0_0.size 2 = 0 := by
  rcases fin_N0 t with rfl | rfl | rfl | rfl | rfl | rfl | rfl | rfl | rfl | rfl | rfl | rfl | rfl | rfl | rfl | rfl <;>
    decide +kernel

/-- and so does the result's. -/
theorem start_out (t : Fin cfg0.N) : win0_1.index t 0 * win0_1.size 0 = 4 * t.val
    ∧ win0_1.index t 1 * win0_1.size 1 = 0 ∧ win0_1.index t 2 * win0_1.size 2 = 0 := by
  rcases fin_N0 t with rfl | rfl | rfl | rfl | rfl | rfl | rfl | rfl | rfl | rfl | rfl | rfl | rfl | rfl | rfl | rfl <;>
    decide +kernel

/-- An element of the operand's block at point `t`, in the array. -/
theorem emb_in (t : Fin cfg0.N) (y : S4x32x8192.Idx) :
    (win0_0.rect t).emb y = ix3 (place t (y 0)) (y 1) (y 2) := by
  obtain ⟨h0, h1, h2⟩ := start_in t
  funext d
  apply Fin.ext
  refine (Pipeline.Window.rect_emb_val win0_0 t y d rfl).trans ?_
  match d with
  | ⟨0, _⟩ => exact congrArg (· + (y 0 : Nat)) h0
  | ⟨1, _⟩ => exact (congrArg (· + (y 1 : Nat)) h1).trans (Nat.zero_add _)
  | ⟨2, _⟩ => exact (congrArg (· + (y 2 : Nat)) h2).trans (Nat.zero_add _)

/-- An element of the result's block at point `t`, in the array. -/
theorem emb_out (t : Fin cfg0.N) (y : S4x32x8192.Idx) :
    (win0_1.rect t).emb y = ix3 (place t (y 0)) (y 1) (y 2) := by
  obtain ⟨h0, h1, h2⟩ := start_out t
  funext d
  apply Fin.ext
  refine (Pipeline.Window.rect_emb_val win0_1 t y d rfl).trans ?_
  match d with
  | ⟨0, _⟩ => exact congrArg (· + (y 0 : Nat)) h0
  | ⟨1, _⟩ => exact (congrArg (· + (y 1 : Nat)) h1).trans (Nat.zero_add _)
  | ⟨2, _⟩ => exact (congrArg (· + (y 2 : Nat)) h2).trans (Nat.zero_add _)

/-! ## The result array of the launch -/

/-- The one-hot, along the middle axis, of a whole (64, 32, 8192) array. -/
def mid (x : FVec Ideal S64x32x8192 .f32) : FVec Ideal S64x32x8192 .f32 :=
  fun i => hot (fun l => x (ix3 (i 0) l (i 2))) (i 1)

/-- What the body leaves of a block, at an index: the payload there. -/
theorem left_apply (x : FVec Ideal S4x32x8192 .f32) (y : S4x32x8192.Idx) :
    out0_1 (F := Ideal) x y = hot (Block.row x (y 0) (y 2)) (y 1) := by
  have hz : (![0, 0, 0] : Fin 3 → Nat) = fun _ => 0 := by decide
  unfold out0_1
  rw [View.canon_unit_zero hz, View.ld_unit_zero hz]
  exact (congrArg (k0_pay1 (F := Ideal) x) (eq_ix3 y)).trans (Block.stored_apply x (y 0) (y 1) (y 2))

/-- What point `t` leaves at an element of its block is the one-hot of the whole operand array at the element's place. -/
theorem block_apply (c : Dev nD) (t : Fin cfg0.N) (y : S4x32x8192.Idx) :
    out0_1 (F := Ideal) (iblk m c 0 t) y = mid (V m c main_v0) (ix3 (place t (y 0)) (y 1) (y 2)) := by
  rw [left_apply]
  show hot _ (y 1) = hot _ (y 1)
  refine congrArg (hot · (y 1)) (funext fun l => ?_)
  show V m c main_v0 ((win0_0.rect t).emb (ix3 (y 0) l (y 2))) = V m c main_v0 (ix3 (place t (y 0)) l (y 2))
  exact congrArg (V m c main_v0) (emb_in t (ix3 (y 0) l (y 2)))

/-- Every element of the result array is in the block of the point its batch belongs to. -/
theorem filled (i : S64x32x8192.Idx) :
    ∃ t : Fin cfg0.N, (cfg0.win 1).flush t = true ∧ i ∈ ((cfg0.win 1).blk t).view.set := by
  have h0 : (i 0).val < 64 := (i 0).isLt
  have hN : cfg0.N = 16 := N_0
  let t : Fin cfg0.N := ⟨(i 0).val / 4, by omega⟩
  let y : S4x32x8192.Idx := ix3 (⟨(i 0).val % 4, by omega⟩ : Fin 4) (i 1) (i 2)
  have e : i = (win0_1.rect t).emb y := by
    rw [emb_out]
    have hp : place t (y 0) = i 0 := Fin.ext (Nat.div_add_mod (i 0).val 4)
    rw [hp]
    exact eq_ix3 i
  refine ⟨t, flush0_1 t, ?_⟩
  rw [e]
  exact ((cfg0.win 1).blk t).view.emb_mem_set y

/-- THE LAUNCH: its result array ends as the one-hot of its operand array along the middle axis. -/
theorem array_eq (c : Dev nD) : (dats m 0 c).arrAt 1 cfg0.N = mid (V m c main_v0) :=
  (dats m 0 c).arrAt_eq_of_emb 1 (mid (V m c main_v0))
    (fun t _ y => by
      exact (congrFun (after0_1 m c t) y).trans <| (block_apply m c t y).trans (congrArg (mid (V m c main_v0)) (emb_out t y).symm))
    filled

/-! ## The host's two exchanges of axes -/

/-- The operand array is the argument with its last two axes exchanged. -/
theorem operand_apply (c : Dev nD) (a : Fin 64) (l : Fin 32) (b : Fin 8192) :
    V m c main_v0 (ix3 a l b) = m ((c : Thread nD τ).loc main_arg0) (ix3 a b l) := by
  have e : V m c main_v0 = transpose S64x32x8192 [0, 2, 1] (m ((c : Thread nD τ).loc main_arg0))
      transposes_S64x8192x32_S64x32x8192_0_2_1 := by
    show StableHlo.after hostOps0 _ _ = _
    after_results_simp
  rw [e]
  exact transpose_apply _ _ _ _ _ fun d => by
    match d with
    | ⟨0, _⟩ => rfl
    | ⟨1, _⟩ => rfl
    | ⟨2, _⟩ => rfl

/-- The one-hot of a whole (64, 8192, 32) array along its last axis. -/
def result (x : FVec Ideal S64x8192x32 .f32) : FVec Ideal S64x8192x32 .f32 :=
  fun i => hot (fun l => x (ix3 (i 0) (i 1) l)) (i 2)

/-- The program's result is the one-hot of its argument along the last axis. -/
theorem result_eq (c : Dev nD) :
    Pipeline.afterTail₀ cfgs (dats m) 0 (V0 m) [hostOps1] c main_v2 = result (m ((c : Thread nD τ).loc main_arg0)) := by
  have e : Pipeline.afterTail₀ cfgs (dats m) 0 (V0 m) [hostOps1] c main_v2
      = transpose S64x8192x32 [0, 2, 1] (mid (V m c main_v0)) transposes_S64x32x8192_S64x8192x32_0_2_1 := by
    unfold Pipeline.afterTail₀
    show StableHlo.after hostOps1 _ _ = _
    after_results_simp
    refine congrArg (fun x => transpose S64x8192x32 [0, 2, 1] x transposes_S64x32x8192_S64x8192x32_0_2_1) ?_
    exact (Pipeline.withArrays_arr spec0 (by decide) c (V0 m c) (fun w => (dats m 0 c).arrAt w cfg0.N) 1).trans (array_eq m c)
  rw [e]
  funext i
  refine (transpose_apply _ _ _ i (ix3 (i 0) (i 2) (i 1)) fun d => by
    match d with
    | ⟨0, _⟩ => rfl
    | ⟨1, _⟩ => rfl
    | ⟨2, _⟩ => rfl).trans ?_
  show hot _ (i 2) = hot _ (i 2)
  exact congrArg (hot · (i 2)) (funext fun l => operand_apply m c (i 0) l (i 1))

/-- THE RUN: every execution ends with the program's result at the one-hot of the argument and the argument unchanged. -/
theorem run : θ_run defs (onTc (τ := τ) (main (F := Ideal))) ⟨m, fun _ => 0, ρ⟩ fun r => ∀ c : Dev nD,
    r.2.mem ((c : Thread nD τ).loc main_v2) = result (m ((c : Thread nD τ).loc main_arg0))
    ∧ r.2.mem ((c : Thread nD τ).loc main_arg0) = m ((c : Thread nD τ).loc main_arg0) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c)⟩)
    (run_main m ρ)

end Cert.KernelIdeal.Array

end
-- ==== Proof.RefRun.lean ====
/-
  The reference as one line of operations, and what it leaves behind: its result array is a function of the argument array
  alone (`out`), and the argument array is as it was. Nothing is said here about what that function computes.
-/
module

public import proofs.«01_k».proof.Proof.Gen.ReferenceIdeal
public import Idealize.ShloMosaic.Lib.StableHlo.Run
public import Idealize.ShloMosaic.Lib.Quiescent

@[expose] public section

noncomputable section

namespace Cert.ReferenceIdeal.Line

open Cert.ReferenceIdeal Cert.ReferenceIdeal.Gen
open Idealize.ShloMosaic Idealize.ShloMosaic.TcCoe Idealize.ShloMosaic.StableHlo Idealize.SL.Sem

variable {F : FTy → Type} [FloatOps F]

/-- The index array: at each row, the place in the pair the arg-max's fold over the row's (value, place) pairs ends at. -/
def index (x : FVec F S64x8192x32 .f32) : IVec S64x8192 32 := fun j =>
  (Host.argReduce reducer_argmax_f32_i32 x (iotaInDim S64x8192x32 32 2) (constant S_ .f32 0xFF800000#32) (constantI S_ 32 0#32)
    reducesTo_S64x8192x32_S64x8192_d2 h_S_ j).2

/-- The same, as an equation of whole arrays. -/
theorem index_eq (x : FVec F S64x8192x32 .f32) :
    index x = fun j => (Host.argReduce reducer_argmax_f32_i32 x (iotaInDim S64x8192x32 32 2)
      (constant S_ .f32 0xFF800000#32) (constantI S_ 32 0#32) reducesTo_S64x8192x32_S64x8192_d2 h_S_ j).2 := rfl

/-- The result array: at each row and place, the truth of "this place's number is the row's index", as a float. -/
def out (x : FVec F S64x8192x32 .f32) : FVec F S64x8192x32 .f32 :=
  uitofp .f32 (cmpi .eq
    (broadcastInDim S64x8192x32 ![0, 1, 2] bcast_S64x8192x1_S64x8192x32_0_1_2
      (broadcastInDim S64x8192x1 ![0, 1] bcast_S64x8192_S64x8192x1_0_1 (index x)))
    (broadcastInDim S64x8192x32 ![0, 1, 2] bcast_S1x1x32_S64x8192x32_0_1_2 (iotaInDim S1x1x32 32 2)))

/-- The eleven operations in order: the five of the arg-max (the places' numbers, the two starting values, and one line for
    each result of the fold), then the six of the one-hot. -/
abbrev ops : List (HloOp τ sig (Elt F)) :=
  [ TRef.nullary main_call0.v0 (iotaInDim S64x8192x32 32 2),
    TRef.nullary main_call0.cst (constant S_ .f32 0xFF800000#32),
    TRef.nullary main_call0.c (constantI S_ 32 0#32),
    TRef.quaternary (.of main_arg0) main_call0.v0 main_call0.cst main_call0.c main_call0.v1_0
      (fun x y u v j => (Host.argReduce reducer_argmax_f32_i32 x y u v reducesTo_S64x8192x32_S64x8192_d2 h_S_ j).1),
    TRef.quaternary (.of main_arg0) main_call0.v0 main_call0.cst main_call0.c main_call0.v1_1
      (fun x y u v j => (Host.argReduce reducer_argmax_f32_i32 x y u v reducesTo_S64x8192x32_S64x8192_d2 h_S_ j).2),
    TRef.unary (.of main_v0 : TRef sig ⟨S64x8192, .i32⟩) main_call1.v0 (broadcastInDim S64x8192x1 ![0, 1] bcast_S64x8192_S64x8192x1_0_1),
    TRef.nullary main_call1.v1 (iotaInDim S1x1x32 32 2),
    TRef.unary main_call1.v0 main_call1.v2 (broadcastInDim S64x8192x32 ![0, 1, 2] bcast_S64x8192x1_S64x8192x32_0_1_2),
    TRef.unary main_call1.v1 main_call1.v3 (broadcastInDim S64x8192x32 ![0, 1, 2] bcast_S1x1x32_S64x8192x32_0_1_2),
    TRef.binary main_call1.v2 main_call1.v3 main_call1.v4 (cmpi .eq),
    TRef.unary main_call1.v4 main_call1.v5 (uitofp .f32) ]

/-- The program is that line. -/
theorem main_eq (c : Dev nD) : main (F := F) c = seq ops := by
  simp only [main, fn_argmax.body, fn_one_hot.body, seq, bind_assoc, pure_bind]

/-- After the line the result array holds `out` of the argument array. -/
theorem out_eq (V : Valuation τ sig (Elt F)) :
    after ops V (main_v1 : DevRef τ sig) = out (V (main_arg0 : DevRef τ sig)) := by
  after_results_simp
  unfold out index
  simp only [TRef.ofBuf_toBuf]
  rfl

/-- After the line the argument array is as it was. -/
theorem arg_eq (V : Valuation τ sig (Elt F)) : after ops V (main_arg0 : DevRef τ sig) = V (main_arg0 : DevRef τ sig) := by
  simp only [after_cons, after_nil]
  rfl

/-- No buffer of the program is scoped to a region, -/
theorem no_scopedRefs : (Finset.univ.filter fun b : Ref sig .tc => b.isScoped) = ∅ := by decide
/-- and no semaphore is. -/
theorem no_scopedSems : (Finset.univ.filter fun sm : SemLoc sig => sm.isScoped .tc) = ∅ := by decide

/-- Every operation touches arrays of the program only. -/
theorem ops_sub : (ops : List (HloOp τ sig (Elt F))).Forall fun op => op.bufs ⊆ tcRefs τ sig :=
  ⟨nullary_bufs_sub .., nullary_bufs_sub .., nullary_bufs_sub .., quaternary_bufs_sub .., quaternary_bufs_sub ..,
    unary_bufs_sub .., nullary_bufs_sub .., unary_bufs_sub .., unary_bufs_sub .., binary_bufs_sub .., unary_bufs_sub ..⟩

/-- THE RUN: from any memory with zero counters every execution of the reference ends, with the result array at `out` of the
    argument array and the argument array unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1) = out (m ((c.tc : Thread nD τ).loc main_arg0))
      ∧ r.2.mem ((c.tc : Thread nD τ).loc main_arg0) = m ((c.tc : Thread nD τ).loc main_arg0) :=
  (θ_run defs _ _).mono
    (fun _ h c => ⟨(h c main_v1).trans (out_eq _), (h c main_arg0).trans (arg_eq _)⟩)
    (run_seq no_scopedRefs no_scopedSems defs main (fun _ => ops) main_eq (fun _ => ops_sub) m ρ)

/-- And the frame: the argument array ends unchanged and every semaphore counter at zero, there being none. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)) ∧ r.2.sem = fun _ => 0 :=
  (θ_run defs _ _).mono (fun r h => ⟨fun c => (h c).2, sem_eq_zero_of_no_sems (by decide) r.2⟩) (run m ρ)

end Cert.ReferenceIdeal.Line

end
-- ==== Proof.RefValue.lean ====
/-
  What the reference computes, over the extended reals: its result at a row and a place is the row's one-hot there. The
  arg-max's fold keeps the better of two (value, place) pairs (`better_eq`), and the pairs it folds at a row are the row's
  32 (`mem_pairs`), so it ends at the row's first maximum; the comparison with each place's number makes the one-hot.
-/
module

public import proofs.«01_k».proof.Proof.FirstMax
public import proofs.«01_k».proof.Proof.RefRun
public import Idealize.ShloMosaic.PureOps.Ideal.Laws
public import Idealize.ShloMosaic.Lib.Pipeline.Value
public import Idealize.ShloMosaic.Lib.ValueIdxCore

@[expose] public section

noncomputable section

namespace Cert.ReferenceIdeal.Line

open Cert.ReferenceIdeal Cert.ReferenceIdeal.Gen Cert.OneHot
open Idealize.ShloMosaic Idealize.ShloMosaic.ValueIdx

/-- The fold's step: keeps the one of two pairs. -/
abbrev better : EReal × BitVec 32 → EReal × BitVec 32 → EReal × BitVec 32 := reducer_argmax_f32_i32 (F := Ideal)

/-- The step keeps the first pair when its value is greater, or the values agree and its place is smaller; otherwise it
    keeps the second. -/
theorem better_eq (p q : EReal × BitVec 32) :
    better p q = if q.1 < p.1 ∨ (p.1 = q.1 ∧ p.2.toInt < q.2.toInt) then p else q := by
  have e : better p q
      = (Scalar.select (BitVec.ofBool (decide (q.1 < p.1)) ||| BitVec.ofBool (decide (p.1 ≠ p.1))) p.1 q.1,
          Scalar.select ((BitVec.ofBool (decide (q.1 < p.1)) ||| BitVec.ofBool (decide (p.1 ≠ p.1)))
            ||| (BitVec.ofBool (decide (p.1 = q.1)) &&& BitVec.ofBool (decide (p.2.toInt < q.2.toInt)))) p.2 q.2) := rfl
  rw [e, decide_eq_false (not_not.2 (rfl : p.1 = p.1))]
  by_cases h : q.1 < p.1
  · rw [if_pos (.inl h), decide_eq_true h, decide_eq_false h.ne']
    cases decide (p.2.toInt < q.2.toInt) <;> rfl
  · rw [decide_eq_false h]
    by_cases h1 : p.1 = q.1
    · by_cases h2 : p.2.toInt < q.2.toInt
      · rw [if_pos (.inr ⟨h1, h2⟩), decide_eq_true h1, decide_eq_true h2]
        exact Prod.ext h1.symm rfl
      · rw [if_neg (by rintro (g | g); exacts [h g, h2 g.2]), decide_eq_true h1, decide_eq_false h2]
        rfl
    · rw [if_neg (by rintro (g | g); exacts [h g, h1 g.1]), decide_eq_false h1]
      cases decide (p.2.toInt < q.2.toInt) <;> rfl

/-- It keeps one of the two, -/
theorem better_keeps (p q : EReal × BitVec 32) : better p q = p ∨ better p q = q := by
  rw [better_eq]; split
  · exact .inl rfl
  · exact .inr rfl

/-- and one at least as good as both. -/
theorem better_beats (p q : EReal × BitVec 32) : Beats (better p q) p ∧ Beats (better p q) q := by
  rw [better_eq]
  split
  · next h =>
    refine ⟨Beats.refl p, ?_⟩
    rcases h with h | ⟨h, g⟩
    · exact .inl h
    · exact .inr ⟨h.symm, g.le⟩
  · next h =>
    refine ⟨?_, Beats.refl q⟩
    rw [not_or, not_and] at h
    rcases lt_or_eq_of_le (not_lt.1 h.1) with g | g
    · exact .inl g
    · exact .inr ⟨g, not_lt.1 (h.2 g)⟩

variable (x : FVec Ideal S64x8192x32 .f32)

/-- The row of the array at batch `a` and position `b`: the 32 values along the last axis. -/
def row (a : Fin 64) (b : Fin 8192) : Fin 32 → EReal := fun l => x (ix3 a b l)

/-- The pairs the arg-max folds at a row are the row's values, each with its place's number. -/
theorem mem_pairs (a : Fin 64) (b : Fin 8192) (p : EReal × BitVec 32) :
    p ∈ Host.argReduceFiber (α := EReal) x (iotaInDim S64x8192x32 32 2) reducesTo_S64x8192x32_S64x8192_d2 (ix2 a b)
      ↔ ∃ k : Fin 32, p = (row x a b k, BitVec.ofNat 32 k.val) := by
  unfold Host.argReduceFiber
  rw [List.mem_map]
  constructor
  · rintro ⟨n, hn, rfl⟩
    have hd := of_decide_eq_true (List.mem_filter.1 hn).2
    refine ⟨(S64x8192x32.rowMajor.symm n) 2, ?_⟩
    have hi : S64x8192x32.rowMajor.symm n = ix3 a b ((S64x8192x32.rowMajor.symm n) 2) := by
      funext d
      match d with
      | ⟨0, _⟩ => exact congrFun hd 0
      | ⟨1, _⟩ => exact congrFun hd 1
      | ⟨2, _⟩ => rfl
    exact Prod.ext (congrArg x hi) rfl
  · rintro ⟨k, rfl⟩
    refine ⟨S64x8192x32.rowMajor (ix3 a b k), List.mem_filter.2 ⟨List.mem_finRange _, decide_eq_true ?_⟩, ?_⟩
    · rw [Equiv.symm_apply_apply]
      funext d
      match d with
      | ⟨0, _⟩ => rfl
      | ⟨1, _⟩ => rfl
    · rw [Equiv.symm_apply_apply]; rfl

/-- The fold's starting value is the least of all. -/
theorem start_value (i : S_.Idx) : (constant (F := Ideal) S_ .f32 0xFF800000#32 i : EReal) = ⊥ := by
  show Ideal.ofBits .f32 0xFF800000#32 = ⊥
  simp [Ideal.ofBits, Ideal.ieee]

/-- The fold over any list that holds exactly a row's pairs ends at the row's first maximum. -/
theorem fold_apply (r : Fin 32 → EReal) (i : S_.Idx) (L : List (EReal × BitVec 32))
    (hL : ∀ p, p ∈ L ↔ ∃ k : Fin 32, p = (r k, BitVec.ofNat 32 k.val)) :
    (L.foldl better (constant (F := Ideal) S_ .f32 0xFF800000#32 i, constantI S_ 32 0#32 i)).2
      = BitVec.ofNat 32 (firstMax r).val := by
  rw [start_value]
  exact foldl_row better better_keeps better_beats r L hL

/-- A comparing fold over pairs, at an index of its result, is the fold over that index's pairs. -/
theorem argReduce_apply {s t u : Shape} {axes : List (Fin s.rank)}
    (f : Ideal .f32 × BitVec 32 → Ideal .f32 × BitVec 32 → Ideal .f32 × BitVec 32) (v : FVec Ideal s .f32)
    (y : IVec s 32) (ix : FVec Ideal u .f32) (iy : IVec u 32) (h : s.ReducesTo axes t) (hu : 0 < u.numel) (j : t.Idx) :
    (Host.argReduce f v y ix iy h hu j).2
      = ((Host.argReduceFiber v y h j).foldl f (ix (Shape.Idx.first hu), iy (Shape.Idx.first hu))).2 := by
  rw [Ideal.argReduce_eq_reduce2, Host.reduce2_eq_foldl_fiber]

/-- The index at a row is its first maximum's word. -/
theorem index_apply (a : Fin 64) (b : Fin 8192) :
    index (F := Ideal) x (ix2 a b) = BitVec.ofNat 32 (firstMax (row x a b)).val :=
  (congrFun (index_eq x) (ix2 a b)).trans <| (argReduce_apply better x _ _ _ _ _ (ix2 a b)).trans (fold_apply (row x a b) _ _ (mem_pairs x a b))

/-- A table with one entry per row, given the last axis and spread along it, reads at every place of a row the row's
    entry. -/
theorem spread_apply {α : Type} (v : S64x8192.Idx → α) (a : Fin 64) (b : Fin 8192) (k : Fin 32) :
    broadcastInDim S64x8192x32 ![0, 1, 2] bcast_S64x8192x1_S64x8192x32_0_1_2
        (broadcastInDim S64x8192x1 ![0, 1] bcast_S64x8192_S64x8192x1_0_1 v) (ix3 a b k) = v (ix2 a b) := by
  rw [broadcastInDim_apply _ _ _ (ix3 a b k) (ix3 a b (0 : Fin 1)) (fun d => by
      match d with
      | ⟨0, _⟩ => rfl
      | ⟨1, _⟩ => rfl
      | ⟨2, _⟩ => rfl),
    broadcastInDim_apply _ _ _ (ix3 a b (0 : Fin 1)) (ix2 a b) (fun d => by
      match d with
      | ⟨0, _⟩ => rfl
      | ⟨1, _⟩ => rfl)]

/-- The places' numbers, spread over the rows, read each place's own. -/
theorem places_apply (a : Fin 64) (b : Fin 8192) (k : Fin 32) :
    broadcastInDim S64x8192x32 ![0, 1, 2] bcast_S1x1x32_S64x8192x32_0_1_2 (iotaInDim S1x1x32 32 2) (ix3 a b k)
      = BitVec.ofNat 32 k.val := by
  rw [broadcastInDim_apply _ _ _ (ix3 a b k) (ix3 (0 : Fin 1) (0 : Fin 1) k) (fun d => by
    match d with
    | ⟨0, _⟩ => rfl
    | ⟨1, _⟩ => rfl
    | ⟨2, _⟩ => rfl)]
  rfl

/-- THE REFERENCE'S VALUE: its result at batch `a`, position `b`, place `k` is the one-hot of the row there at `k`. -/
theorem out_apply (a : Fin 64) (b : Fin 8192) (k : Fin 32) : out (F := Ideal) x (ix3 a b k) = hot (row x a b) k := by
  unfold out
  show (((BitVec.ofBool (decide (broadcastInDim S64x8192x32 ![0, 1, 2] bcast_S64x8192x1_S64x8192x32_0_1_2
      (broadcastInDim S64x8192x1 ![0, 1] bcast_S64x8192_S64x8192x1_0_1 (index (F := Ideal) x)) (ix3 a b k)
    = broadcastInDim S64x8192x32 ![0, 1, 2] bcast_S1x1x32_S64x8192x32_0_1_2 (iotaInDim S1x1x32 32 2) (ix3 a b k)))).toNat
      : ℝ) : EReal) = _
  rw [spread_apply, places_apply, index_apply]
  unfold hot
  by_cases h : k = firstMax (row x a b)
  · rw [if_pos h, decide_eq_true (place_word_inj.2 h.symm)]
    show (((1 : ℕ) : ℝ) : EReal) = 1
    simp
  · rw [if_neg h, decide_eq_false (fun g => h (place_word_inj.1 g).symm)]
    show (((0 : ℕ) : ℝ) : EReal) = 0
    simp

end Cert.ReferenceIdeal.Line

end
-- ==== Proof.lean ====
/-
  The claims about the one-hot of the arg-max. The three programs end with their arguments unchanged and every semaphore
  counter at zero; nothing was replaced in the idealized kernel, so preserving is immediate; and over the extended reals the
  kernel and the reference leave the same array, the one-hot of the argument along its last axis. The kernel's run is
  Proof/Array.lean's `run`; the reference's is Proof/RefRun.lean's, its value Proof/RefValue.lean's.
-/
module

public import proofs.«01_k».proof.Defs
public import proofs.«01_k».proof.Proof.Gen.Kernel.Frame
public import proofs.«01_k».proof.Proof.Array
public import proofs.«01_k».proof.Proof.RefValue

@[expose] public section

noncomputable section

namespace Cert.Proof

open Idealize.ShloMosaic Idealize.SL.Sem

/-- The reference's result, as a whole array, is the kernel's: both are the one-hot of the argument along its last axis. -/
theorem reference_eq (x : FVec Ideal Cert.ReferenceIdeal.S64x8192x32 .f32) :
    Cert.ReferenceIdeal.Line.out (F := Ideal) x = Cert.KernelIdeal.Array.result x := by
  funext i
  exact (congrArg (Cert.ReferenceIdeal.Line.out (F := Ideal) x) (ValueIdx.eq_ix3 i)).trans
    (Cert.ReferenceIdeal.Line.out_apply x (i 0) (i 1) (i 2))

/-- From memories that agree on the argument, the kernel and the reference end with the same result array. -/
theorem equal_results : Cert.algebraic_KernelIdeal_ReferenceIdeal := by
  intro m ρ m' ρ' _ hagree
  refine ⟨fun c => Cert.KernelIdeal.Array.result (m ((c.tc : Thread _ _).loc Cert.KernelIdeal.main_arg0)),
    Cert.KernelIdeal.Array.run m ρ, ?_⟩
  refine (θ_run Cert.ReferenceIdeal.defs _ _).mono (fun _ h c => ⟨(h c).1.trans ?_, (h c).2⟩)
    (Cert.ReferenceIdeal.Line.run (F := Ideal) m' ρ')
  exact (reference_eq _).trans (congrArg Cert.KernelIdeal.Array.result (hagree c))

/-- The whole statement: the three frames, the preserving, the equality of results. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => Cert.ReferenceIdeal.Line.frame m ρ,
    trivial,
    equal_results⟩

end Cert.Proof

end
